-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x32x64x64 : Shape := ⟨4, ![32, 32, 64, 64]⟩
abbrev S512x32 : Shape := ⟨2, ![512, 32]⟩
abbrev S_ : Shape := ⟨0, ![]⟩

class Facts : Prop where
  bcast_S_S32x32x64x64 : S_.BroadcastsInDim S32x32x64x64 (![] : Fin 0 → Fin S32x32x64x64.rank)
  reducesTo_S32x32x64x64_S_d0_1_2_3 : S32x32x64x64.ReducesTo [0, 1, 2, 3] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x32x64x64 .f32) (main_arg1 : FVec F S512x32 .f32) : IVec S_ 1 :=
  let main_v0 : FVec F S32x32x64x64 .f32 := Host.absf main_arg0
  let main_cst : FVec F S_ .f32 := constant S_ .f32 0x7F800000#32
  let main_v1 : FVec F S32x32x64x64 .f32 := broadcastInDim S32x32x64x64 ![] bcast_S_S32x32x64x64 main_cst
  let main_v2 : IVec S32x32x64x64 1 := cmpf .olt main_v0 main_v1
  let main_c : IVec S_ 1 := constantI S_ 1 1#1
  let main_v3 : IVec S_ 1 := (fun x v => Host.reduce IntOp.andi x v reducesTo_S32x32x64x64_S_d0_1_2_3 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S32x32x64x64 : Shape := ⟨4, ![32, 32, 64, 64]⟩
abbrev S512x32 : Shape := ⟨2, ![512, 32]⟩
abbrev S32x32x4096 : Shape := ⟨3, ![32, 32, 4096]⟩
abbrev S32x512 : Shape := ⟨2, ![32, 512]⟩
abbrev S32x1x4096 : Shape := ⟨3, ![32, 1, 4096]⟩
abbrev S1x1 : Shape := ⟨2, ![1, 1]⟩
abbrev S32x64x64 : Shape := ⟨3, ![32, 64, 64]⟩
abbrev S_ : Shape := ⟨0, ![]⟩
abbrev S1x32x2048 : Shape := ⟨3, ![1, 32, 2048]⟩
abbrev S1x1x2048 : Shape := ⟨3, ![1, 1, 2048]⟩
abbrev S32x2048 : Shape := ⟨2, ![32, 2048]⟩
abbrev S512x2048 : Shape := ⟨2, ![512, 2048]⟩
abbrev S2048 : Shape := ⟨1, ![2048]⟩
abbrev S512 : Shape := ⟨1, ![512]⟩
abbrev S1x2048 : Shape := ⟨2, ![1, 2048]⟩
abbrev S512x1 : Shape := ⟨2, ![512, 1]⟩
abbrev S1 : Shape := ⟨1, ![1]⟩
abbrev S1x1x1 : Shape := ⟨3, ![1, 1, 1]⟩

abbrev nBuf : Space → Nat
  | .hbm => 13
  | .vmem => 9
  | .smem => 0
  | _ => 0

abbrev bufTy : (tb : Table) → Fin (tcTables nBuf tb) → BufTy
  | .hbm, ⟨0, _⟩ => ⟨S32x32x64x64, .f32⟩
  | .hbm, ⟨1, _⟩ => ⟨S512x32, .f32⟩
  | .hbm, ⟨2, _⟩ => ⟨S32x32x4096, .f32⟩
  | .hbm, ⟨3, _⟩ => ⟨S32x512, .f32⟩
  | .hbm, ⟨4, _⟩ => ⟨S32x32x4096, .f32⟩
  | .hbm, ⟨5, _⟩ => ⟨S32x1x4096, .i32⟩
  | .hbm, ⟨6, _⟩ => ⟨S1x1, .f32⟩
  | .hbm, ⟨7, _⟩ => ⟨S32x32x64x64, .f32⟩
  | .hbm, ⟨8, _⟩ => ⟨S32x64x64, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x32x2048, .f32⟩
  | .local _ .vmem, ⟨1, _⟩ => ⟨S1x32x2048, .f32⟩
  | .local _ .vmem, ⟨2, _⟩ => ⟨S512x32, .f32⟩
  | .local _ .vmem, ⟨3, _⟩ => ⟨S32x512, .f32⟩
  | .local _ .vmem, ⟨4, _⟩ => ⟨S1x32x2048, .f32⟩
  | .local _ .vmem, ⟨5, _⟩ => ⟨S1x32x2048, .f32⟩
  | .local _ .vmem, ⟨6, _⟩ => ⟨S1x1x2048, .i32⟩
  | .local _ .vmem, ⟨7, _⟩ => ⟨S1x1x2048, .i32⟩
  | .local _ .vmem, ⟨8, _⟩ => ⟨S1x1, .f32⟩
  | _, _ => ⟨S32x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_v0_0 : Ref sig .tc := ⟨.hbm, 7, rfl⟩
abbrev main_v0_1 : Ref sig .tc := ⟨.hbm, 8, rfl⟩
abbrev main_call0_v5 : Ref sig .tc := ⟨.hbm, 9, rfl⟩
abbrev main_call0_cst : Ref sig .tc := ⟨.hbm, 10, rfl⟩
abbrev main_call0_v6 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S32x32x64x64 : Shape := ⟨4, ![32, 32, 64, 64]⟩
abbrev S512x32 : Shape := ⟨2, ![512, 32]⟩
abbrev S32x64x64x32 : Shape := ⟨4, ![32, 64, 64, 32]⟩
abbrev S32x4096x32 : Shape := ⟨3, ![32, 4096, 32]⟩
abbrev S_ : Shape := ⟨0, ![]⟩
abbrev S32x4096 : Shape := ⟨2, ![32, 4096]⟩
abbrev S32x4096x1 : Shape := ⟨3, ![32, 4096, 1]⟩
abbrev S512 : Shape := ⟨1, ![512]⟩
abbrev S32x4096x512 : Shape := ⟨3, ![32, 4096, 512]⟩
abbrev S1x1x512 : Shape := ⟨3, ![1, 1, 512]⟩
abbrev S1 : Shape := ⟨1, ![1]⟩
abbrev S1x1x1 : Shape := ⟨3, ![1, 1, 1]⟩
abbrev S32x64x64 : Shape := ⟨3, ![32, 64, 64]⟩

abbrev nBuf : Space → Nat
  | .hbm => 59
  | .vmem => 0
  | .smem => 0
  | _ => 0

abbrev bufTy : (tb : Table) → Fin (tcTables nBuf tb) → BufTy
  | .hbm, ⟨0, _⟩ => ⟨S32x32x64x64, .f32⟩
  | .hbm, ⟨1, _⟩ => ⟨S512x32, .f32⟩
  | .hbm, ⟨2, _⟩ => ⟨S32x64x64x32, .f32⟩
  | .hbm, ⟨3, _⟩ => ⟨S32x4096x32, .f32⟩
  | .hbm, ⟨4, _⟩ => ⟨S32x4096x32, .f32⟩
  | .hbm, ⟨5, _⟩ => ⟨S_, .f32⟩
  | .hbm, ⟨6, _⟩ => ⟨S32x4096, .f32⟩
  | .hbm, ⟨7, _⟩ => ⟨S32x4096x1, .f32⟩
  | .hbm, ⟨8, _⟩ => ⟨S512x32, .f32⟩
  | .hbm, ⟨9, _⟩ => ⟨S_, .f32⟩
  | .hbm, ⟨10, _⟩ => ⟨S512, .f32⟩
  | .hbm, ⟨11, _⟩ => ⟨S32x4096x512, .f32⟩
  | .hbm, ⟨12, _⟩ => ⟨S1x1x512, .f32⟩
  | .hbm, ⟨13, _⟩ => ⟨S32x4096x512, .f32⟩
  | .hbm, ⟨14, _⟩ => ⟨S32x4096x512, .f32⟩
  | .hbm, ⟨15, _⟩ => ⟨S32x4096x512, .f32⟩
  | .hbm, ⟨16, _⟩ => ⟨S_, .f32⟩
  | .hbm, ⟨17, _⟩ => ⟨S32x4096x512, .f32⟩
  | .hbm, ⟨18, _⟩ => ⟨S32x4096x512, .f32⟩
  | .hbm, ⟨19, _⟩ => ⟨S32x4096x512, .f32⟩
  | .hbm, ⟨20, _⟩ => ⟨S32x4096x512, .i32⟩
  | .hbm, ⟨21, _⟩ => ⟨S_, .f32⟩
  | .hbm, ⟨22, _⟩ => ⟨S_, .i32⟩
  | .hbm, ⟨23, _⟩ => ⟨S32x4096, .f32⟩
  | .hbm, ⟨24, _⟩ => ⟨S32x4096, .i32⟩
  | .hbm, ⟨25, _⟩ => ⟨S_, .i32⟩
  | .hbm, ⟨26, _⟩ => ⟨S32x4096, .i32⟩
  | .hbm, ⟨27, _⟩ => ⟨S32x4096, .i1⟩
  | .hbm, ⟨28, _⟩ => ⟨S_, .i32⟩
  | .hbm, ⟨29, _⟩ => ⟨S32x4096, .i32⟩
  | .hbm, ⟨30, _⟩ => ⟨S32x4096, .i32⟩
  | .hbm, ⟨31, _⟩ => ⟨S32x4096, .i32⟩
  | .hbm, ⟨32, _⟩ => ⟨S32x4096x1, .i32⟩
  | .hbm, ⟨33, _⟩ => ⟨S1, .i32⟩
  | .hbm, ⟨34, _⟩ => ⟨S_, .i32⟩
  | .hbm, ⟨35, _⟩ => ⟨S32x4096x1, .i32⟩
  | .hbm, ⟨36, _⟩ => ⟨S32x4096x1, .i1⟩
  | .hbm, ⟨37, _⟩ => ⟨S1x1x1, .i32⟩
  | .hbm, ⟨38, _⟩ => ⟨S32x4096x1, .i32⟩
  | .hbm, ⟨39, _⟩ => ⟨S32x4096x1, .i1⟩
  | .hbm, ⟨40, _⟩ => ⟨S32x4096x1, .i1⟩
  | .hbm, ⟨41, _⟩ => ⟨S_, .i1⟩
  | .hbm, ⟨42, _⟩ => ⟨S32x4096, .i1⟩
  | .hbm, ⟨43, _⟩ => ⟨S32x4096x32, .f32⟩
  | .hbm, ⟨44, _⟩ => ⟨S32x4096x32, .i1⟩
  | .hbm, ⟨45, _⟩ => ⟨S_, .f32⟩
  | .hbm, ⟨46, _⟩ => ⟨S32x4096x32, .f32⟩
  | .hbm, ⟨47, _⟩ => ⟨S32x4096x32, .f32⟩
  | .hbm, ⟨48, _⟩ => ⟨S32x4096x32, .f32⟩
  | .hbm, ⟨49, _⟩ => ⟨S32x4096x32, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S32x4096x32, .f32⟩
  | .hbm, ⟨55, _⟩ => ⟨S32x4096x32, .f32⟩
  | .hbm, ⟨56, _⟩ => ⟨S32x64x64x32, .f32⟩
  | .hbm, ⟨57, _⟩ => ⟨S32x32x64x64, .f32⟩
  | .hbm, ⟨58, _⟩ => ⟨S32x64x64, .i32⟩
  | _, _ => ⟨S32x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]
-- ==== Proof.RefTerm.lean ====
/- What the reference computes, stage by stage, as a term over its two arguments. -/
module

public import proofs.«01_k».proof.ReferenceIdeal
public import proofs.«01_k».proof.Proof.Gen.ReferenceIdeal
public import Idealize.ShloMosaic.PureOps.Ideal

@[expose] public section

noncomputable section

namespace Cert.RefTerm

open Idealize.ShloMosaic Cert.ReferenceIdeal Cert.ReferenceIdeal.Gen

/-- The pixels in rows: row `n` of image `b` holds the channels of pixel `n`. -/
def flat (x : FVec Ideal S32x32x64x64 .f32) : FVec Ideal S32x4096x32 .f32 :=
  shapeCast S32x4096x32 (transpose S32x64x64x32 [0, 2, 3, 1] x transposes_S32x32x64x64_S32x64x64x32_0_2_3_1)
    shapeCasts_S32x64x64x32_S32x4096x32

/-- The squared distance of every pixel to every code. -/
def sqDist (X : FVec Ideal S32x4096x32 .f32) (cb : FVec Ideal S512x32 .f32) : FVec Ideal S32x4096x512 .f32 :=
  subf
    (addf
      (broadcastInDim S32x4096x512 ![0, 1, 2] bcast_S32x4096x1_S32x4096x512_0_1_2
        (broadcastInDim S32x4096x1 ![0, 1] bcast_S32x4096_S32x4096x1_0_1
          (Host.reduceAdd (mulf X X) (constant S_ .f32 0x00000000#32) reducesTo_S32x4096x32_S32x4096_d2 h_S_)))
      (broadcastInDim S32x4096x512 ![0, 1, 2] bcast_S1x1x512_S32x4096x512_0_1_2
        (broadcastInDim S1x1x512 ![2] bcast_S512_S1x1x512_2
          (Host.reduceAdd (mulf cb cb) (constant S_ .f32 0x00000000#32) reducesTo_S512x32_S512_d1 h_S_))))
    (mulf (broadcastInDim S32x4096x512 ![] bcast_S_S32x4096x512 (constant S_ .f32 0x40000000#32))
      (Host.dotGeneral dot_S32x4096x32_S512x32_S32x4096x512_2_1_01_0_n_n none X cb))

/-- The second halves of an array of pairs. -/
def second (R : S32x4096.Idx → Ideal .f32 × BitVec 32) : IVec S32x4096 32 := fun j => (R j).2

theorem second_at {R : S32x4096.Idx → Ideal .f32 × BitVec 32} {j : S32x4096.Idx} {p : Ideal .f32 × BitVec 32}
    (h : R j = p) : second R j = p.2 := congrArg Prod.snd h

/-- The number of the nearest code of every pixel: the index half of the two-operand minimum. -/
def nearest (D : FVec Ideal S32x4096x512 .f32) : IVec S32x4096 32 :=
  second (Host.argReduce reducer_argmin_f32_i32 D (iotaInDim S32x4096x512 32 2) (constant S_ .f32 0x7F800000#32)
    (constantI S_ 32 0#32) reducesTo_S32x4096x512_S32x4096_d2 h_S_)

/-- A code number that is negative counts from the end. -/
def wrap (I : IVec S32x4096 32) : IVec S32x4096x1 32 :=
  broadcastInDim S32x4096x1 ![0, 1] bcast_S32x4096_S32x4096x1_0_1
    (select (cmpi .slt I (broadcastInDim S32x4096 ![] bcast_S_S32x4096 (constantI S_ 32 0#32)))
      (addi I (broadcastInDim S32x4096 ![] bcast_S_S32x4096 (constantI S_ 32 512#32))) I)

/-- Whether a code number is one of the codebook's. -/
def inRange (W : IVec S32x4096x1 32) : IVec S32x4096 1 :=
  Host.reduce IntOp.andi
    (andi (cmpi .sge W (broadcastInDim S32x4096x1 ![] bcast_S_S32x4096x1 (constantI S_ 32 0#32)))
      (cmpi .sle W (broadcastInDim S32x4096x1 ![0, 1, 2] bcast_S1x1x1_S32x4096x1_0_1_2
        (broadcastInDim S1x1x1 ![2] bcast_S1_S1x1x1_2 (constantI S1 32 511#32)))))
    (constantI S_ 1 1#1) reducesTo_S32x4096x1_S32x4096_d2 h_S_

/-- The codebook's rows at the code numbers. -/
def take (cb : FVec Ideal S512x32 .f32) (I : IVec S32x4096 32) : FVec Ideal S32x4096x32 .f32 :=
  select (broadcastInDim S32x4096x32 ![0, 1] bcast_S32x4096_S32x4096x32_0_1 (inRange (wrap I)))
    (Host.gather gather_S512x32_S32x4096x1_S32x4096x32_2_0_n_n_0_2_132 cb (wrap I))
    (broadcastInDim S32x4096x32 ![] bcast_S_S32x4096x32 (constant S_ .f32 0x7FC00000#32))

/-- The first result: the pixels moved onto their codes, in the layout of the argument. -/
def quantized (X Q : FVec Ideal S32x4096x32 .f32) : FVec Ideal S32x32x64x64 .f32 :=
  transpose S32x32x64x64 [0, 3, 1, 2]
    (shapeCast S32x64x64x32 (addf X (subf Q X)) shapeCasts_S32x4096x32_S32x64x64x32)
    transposes_S32x64x64x32_S32x32x64x64_0_3_1_2

/-- The second result: the code numbers as an image. -/
def indices (I : IVec S32x4096 32) : IVec S32x64x64 32 :=
  shapeCast S32x64x64 I shapeCasts_S32x4096_S32x64x64

/-- The third result: the mean squared distance to the codes. -/
def loss (X Q : FVec Ideal S32x4096x32 .f32) : FVec Ideal S_ .f32 :=
  Host.divf
    (Host.reduceAdd (mulf (subf Q X) (subf Q X)) (constant S_ .f32 0x00000000#32)
      reducesTo_S32x4096x32_S_d0_1_2 h_S_)
    (constant S_ .f32 0x4A800000#32)

end Cert.RefTerm

end
-- ==== Proof.RefRun.lean ====
/- The run of the reference: its three results are the terms of `Cert.RefTerm`. -/
module

public import proofs.«01_k».proof.Proof.RefTerm
public import Idealize.ShloMosaic.Lib.Claim
public import Idealize.ShloMosaic.Lib.Quiescent
public import Idealize.ShloMosaic.Lib.Tactic.CleanTypes

@[expose] public section

set_option maxRecDepth 16384

noncomputable section

namespace Cert.RefRun

open Idealize.ShloMosaic Idealize.ShloMosaic.TcCoe Idealize.SL.Sem Cert.ReferenceIdeal Cert.RefTerm

variable (m : (ℓ : Loc nD τ sig) → Buf (Elt Ideal) ℓ) (g : Dev nD → PrngReg)

/-- The pixels of device `c`'s argument, in rows. -/
abbrev X (c : Dev nD) : FVec Ideal S32x4096x32 .f32 := flat (m (c.tc.loc main_arg0))
/-- The codebook of device `c`. -/
abbrev cb (c : Dev nD) : FVec Ideal S512x32 .f32 := m (c.tc.loc main_arg1)
/-- The code numbers on device `c`. -/
abbrev I (c : Dev nD) : IVec S32x4096 32 := nearest (sqDist (X m c) (cb m c))

/-- A call reads the distances as they are. -/
theorem at_v14 (h₁ h₂ h₃) (D : FVec Ideal S32x4096x512 .f32) :
    (StableHlo.TRef.of main_v14 h₁ h₂ h₃ : StableHlo.TRef sig ⟨S32x4096x512, .f32⟩).ofBuf (Val := Elt Ideal) D = D := rfl

/-- A call reads the codebook as it is. -/
theorem at_arg1 (h₁ h₂ h₃) (D : FVec Ideal S512x32 .f32) :
    (StableHlo.TRef.of main_arg1 h₁ h₂ h₃ : StableHlo.TRef sig ⟨S512x32, .f32⟩).ofBuf (Val := Elt Ideal) D = D := rfl

/-- The second result is the code numbers that a call left, as an image. -/
theorem to_v25 (h₁ h₂ h₃) (h : S32x4096.ShapeCasts S32x64x64) (D : IVec S32x4096 32) :
    (fun i => shapeCast main_v25.ty.shape
        ((StableHlo.TRef.of main_v15 h₁ h₂ h₃ : StableHlo.TRef sig ⟨S32x4096, .i32⟩).toBuf (Val := Elt Ideal) D) h i)
      = indices D := rfl

/-- A call leaves the gathered codes as they are. -/
theorem to_v16 (h₁ h₂ h₃) (D : FVec Ideal S32x4096x32 .f32) :
    (StableHlo.TRef.of main_v16 h₁ h₂ h₃ : StableHlo.TRef sig ⟨S32x4096x32, .f32⟩).toBuf (Val := Elt Ideal) D = D := rfl

/-- Every execution ends with the three results at their terms and the arguments unchanged. -/
theorem run : θ_run (defs (F := Ideal)) (onTc (τ := τ) (main (F := Ideal))) ⟨m, fun _ => 0, g⟩ (fun r => ∀ c : Dev nD,
    r.2.mem ((c.tc : Thread nD τ).loc main_v24) = quantized (X m c) (take (cb m c) (I m c))
    ∧ r.2.mem ((c.tc : Thread nD τ).loc main_v25) = indices (I m c)
    ∧ r.2.mem ((c.tc : Thread nD τ).loc main_v20) = loss (X m c) (take (cb m c) (I m c))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run
  · simp -implicitDefEqProofs only [StableHlo.TRef.ofBuf_toBuf, at_v14, at_arg1, to_v16]
    rfl
  · simp -implicitDefEqProofs only [StableHlo.TRef.ofBuf_toBuf, at_v14]
    exact (to_v25 _ _ _ _ _).trans rfl
  · simp -implicitDefEqProofs only [StableHlo.TRef.ofBuf_toBuf, at_v14, at_arg1, to_v16]
    rfl

/-- The same run with the semaphore counters, of which the program has none. -/
theorem frame : θ_run (defs (F := Ideal)) (onTc (τ := τ) (main (F := Ideal))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1))
    ∧ r.2.sem = fun _ => 0) :=
  (θ_run defs _ _).mono
    (fun r h => ⟨fun c => ⟨(h c).2.2.2.1, (h c).2.2.2.2⟩, sem_eq_zero_of_no_sems (by decide) r.2⟩) (run m g)

end Cert.RefRun

end
-- ==== Proof.FirstMin.lean ====
/- The first place at which a row of 512 extended reals attains its least value, and two ways to find it: the least of the
   numbers of the places that attain the minimum, and a running (value, number) pair. -/
module

public import Idealize.ShloMosaic.PureOps.Ideal
public import Idealize.ShloMosaic.Lib.Pointwise
public import Mathlib.Data.EReal.Basic

@[expose] public section

noncomputable section

namespace Cert.FirstMin

open Idealize.ShloMosaic

/-- Place `k` holds a least value of `d`, and every earlier place holds a larger one. -/
def IsFirst (d : Fin 512 → EReal) (k : Fin 512) : Prop := (∀ j, d k ≤ d j) ∧ ∀ j, j < k → d k < d j

/-- There is such a place. -/
theorem exists_first (d : Fin 512 → EReal) : ∃ k, IsFirst d k := by
  classical
  obtain ⟨a, -, ha⟩ := Finset.exists_min_image Finset.univ d ⟨0, Finset.mem_univ _⟩
  have hne : (Finset.univ.filter fun k => ∀ j, d k ≤ d j).Nonempty :=
    ⟨a, Finset.mem_filter.2 ⟨Finset.mem_univ _, fun j => ha j (Finset.mem_univ _)⟩⟩
  obtain ⟨k, hk, hmin⟩ := Finset.exists_min_image _ (fun k : Fin 512 => k) hne
  have hk' := (Finset.mem_filter.1 hk).2
  refine ⟨k, hk', fun j hj => lt_of_not_ge fun hle => ?_⟩
  exact absurd (hmin j (Finset.mem_filter.2 ⟨Finset.mem_univ _, fun i => hle.trans (hk' i)⟩)) (not_le.2 hj)

/-- There is only one. -/
theorem IsFirst.unique {d : Fin 512 → EReal} {k l : Fin 512} (hk : IsFirst d k) (hl : IsFirst d l) : k = l := by
  rcases lt_trichotomy k l with h | h | h
  · exact absurd (hl.2 k h) (not_lt.2 (hk.1 l))
  · exact h
  · exact absurd (hk.2 l h) (not_lt.2 (hl.1 k))

/-- The first place of the least value. -/
def first (d : Fin 512 → EReal) : Fin 512 := (exists_first d).choose

theorem first_spec (d : Fin 512 → EReal) : IsFirst d (first d) := (exists_first d).choose_spec

/-- The running minimum from the top is the value at the first place. -/
theorem fold_min (d : Fin 512 → EReal) : Finset.fold min ⊤ d Finset.univ = d (first d) := by
  apply le_antisymm
  · exact (Finset.fold_min_le _).2 (Or.inr ⟨first d, Finset.mem_univ _, le_rfl⟩)
  · exact (Finset.le_fold_min _).2 ⟨le_top, fun j _ => (first_spec d).1 j⟩

/-- A number below `2 ^ 31` read signed off a 32-bit word is itself. -/
theorem toInt_word (n : Nat) (h : n < 2 ^ 31) : (BitVec.ofNat 32 n).toInt = n := by
  rw [BitVec.toInt_eq_toNat_cond, BitVec.toNat_ofNat, Nat.mod_eq_of_lt (by omega)]
  rw [if_pos (by omega)]

theorem toInt_minsi (a b : BitVec 32) : (IntOp.minsi a b).toInt = min a.toInt b.toInt := by
  unfold IntOp.minsi
  split
  next h => rw [BitVec.slt_iff_toInt_lt] at h; rw [min_eq_left (by omega)]
  next h => rw [BitVec.slt_iff_toInt_lt] at h; rw [min_eq_right (by omega)]

/-- The least of the numbers of the places at the minimum, `512` standing for the others. -/
theorem fold_minsi (d : Fin 512 → EReal) :
    Finset.fold IntOp.minsi (2147483647#32)
        (fun k : Fin 512 => if d k = d (first d) then BitVec.ofNat 32 k.val else 512#32) Finset.univ
      = BitVec.ofNat 32 (first d).val := by
  apply BitVec.eq_of_toInt_eq
  have hf := (first d).isLt
  rw [toInt_word _ (by omega), ← Finset.fold_hom (op := IntOp.minsi) (op' := min) (m := BitVec.toInt) toInt_minsi]
  apply le_antisymm
  · refine (Finset.fold_min_le _).2 (Or.inr ⟨first d, Finset.mem_univ _, ?_⟩)
    rw [if_pos rfl, toInt_word _ (by omega)]
  · refine (Finset.le_fold_min _).2 ⟨?_, fun j _ => ?_⟩
    · have : (2147483647#32 : BitVec 32).toInt = 2147483647 := by decide
      rw [this]; omega
    · have hj := j.isLt
      split
      next h =>
        rw [toInt_word _ (by omega)]
        have : ¬ j < first d := fun hlt => absurd ((first_spec d).2 j hlt) (by rw [h]; exact lt_irrefl _)
        have : (first d).val ≤ j.val := not_lt.1 this
        omega
      next h =>
        have : (512#32 : BitVec 32).toInt = 512 := by decide
        rw [this]; omega

/-! ### The running pair -/

/-- A pair is not after another: a smaller value, or the same value and a number that is not larger. -/
def Before (p q : EReal × BitVec 32) : Prop := p.1 < q.1 ∨ (p.1 = q.1 ∧ p.2.toInt ≤ q.2.toInt)

theorem Before.refl (p : EReal × BitVec 32) : Before p p := Or.inr ⟨rfl, le_rfl⟩

theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A body that gives one of its two pairs, and one that is not after either, leaves the first pair of all. -/
theorem foldl_before (f : EReal × BitVec 32 → EReal × BitVec 32 → EReal × BitVec 32)
    (hf : ∀ a b, (f a b = a ∨ f a b = b) ∧ Before (f a b) a ∧ Before (f a b) b) (L : List (EReal × BitVec 32)) :
    ∀ p, L.foldl f p ∈ p :: L ∧ ∀ q ∈ p :: L, Before (L.foldl f p) q := by
  induction L with
  | nil => intro p; simp [Before.refl]
  | cons a L ih =>
    intro p
    obtain ⟨hm, hb⟩ := ih (f p a)
    obtain ⟨hor, hp, ha⟩ := hf p a
    rw [List.foldl_cons]
    have hhead := hb _ List.mem_cons_self
    refine ⟨?_, fun q hq => ?_⟩
    · rcases List.mem_cons.1 hm with h | h
      · rw [h]; rcases hor with h | h <;> rw [h] <;> simp
      · simp [h]
    · rcases List.mem_cons.1 hq with rfl | hq
      · exact hhead.trans hp
      rcases List.mem_cons.1 hq with rfl | hq
      · exact hhead.trans ha
      · exact hb q (List.mem_cons_of_mem _ hq)

/-- Over pairs of a value of `d` and its place, from the top and place zero, that body leaves the first place. -/
theorem foldl_first (f : EReal × BitVec 32 → EReal × BitVec 32 → EReal × BitVec 32)
    (hf : ∀ a b, (f a b = a ∨ f a b = b) ∧ Before (f a b) a ∧ Before (f a b) b) (d : Fin 512 → EReal)
    (L : List (EReal × BitVec 32)) (hL : ∀ p, p ∈ L ↔ ∃ k : Fin 512, p = (d k, BitVec.ofNat 32 k.val)) :
    (L.foldl f (⊤, 0#32)).2 = BitVec.ofNat 32 (first d).val := by
  obtain ⟨hm, hb⟩ := foldl_before f hf L (⊤, 0#32)
  generalize L.foldl f (⊤, 0#32) = r at hm hb
  have hlow : ∀ k : Fin 512, Before r (d k, BitVec.ofNat 32 k.val) := fun k =>
    hb _ (List.mem_cons_of_mem _ ((hL _).2 ⟨k, rfl⟩))
  have key : ∃ k : Fin 512, r = (d k, BitVec.ofNat 32 k.val) := by
    rcases List.mem_cons.1 hm with h | h
    · refine ⟨0, ?_⟩
      have h0 := hlow 0
      rw [h] at h0 ⊢
      rcases h0 with h0 | ⟨h0, -⟩
      · exact absurd h0 not_top_lt
      · exact Prod.ext h0 rfl
    · exact (hL r).1 h
  obtain ⟨k, rfl⟩ := key
  have hk := k.isLt
  have : IsFirst d k := by
    refine ⟨fun j => ?_, fun j hj => ?_⟩
    · rcases hlow j with h | ⟨h, -⟩
      · exact le_of_lt h
      · exact le_of_eq h
    · rcases hlow j with h | ⟨-, h⟩
      · exact h
      · have hj' : j.val < k.val := hj
        simp only [toInt_word _ (show k.val < 2 ^ 31 by omega), toInt_word _ (show j.val < 2 ^ 31 by omega)] at h
        omega
  rw [this.unique (first_spec d)]

end Cert.FirstMin

end
-- ==== Proof.Spec.lean ====
/- The three results as plain formulas over the two arguments: what both programs are shown to compute. -/
module

public import proofs.«01_k».proof.Proof.FirstMin
public import Idealize.ShloMosaic.PureOps.Ideal
public import Idealize.ShloMosaic.Lib.Pointwise

@[expose] public section

noncomputable section

namespace Cert.Spec

open Idealize.ShloMosaic

/-- The images: 32 images of 32 channels of 64 by 64 pixels. -/
abbrev Images : Shape := ⟨4, ![32, 32, 64, 64]⟩

/-- The codebook: 512 codes of 32 channels. -/
abbrev Codes : Shape := ⟨2, ![512, 32]⟩

variable (x : FVec Ideal Images .f32) (cb : FVec Ideal Codes .f32)

/-- Channel `c` of pixel `n` (counted along the rows of the image) of image `b`. -/
def pixel (b : Fin 32) (n : Fin 4096) (c : Fin 32) : EReal :=
  x (ix4 b c ⟨n.val / 64, by omega⟩ ⟨n.val % 64, by omega⟩)

/-- The squared distance of pixel `n` of image `b` to code `k`, as the programs spell it. -/
def sqDist (b : Fin 32) (n : Fin 4096) (k : Fin 512) : EReal :=
  (∑ c, pixel x b n c * pixel x b n c + ∑ c, cb (ix2 k c) * cb (ix2 k c))
    - Ideal.ofBits .f32 0x40000000#32 * ∑ c, pixel x b n c * cb (ix2 k c)

/-- The first nearest code of pixel `n` of image `b`. -/
def best (b : Fin 32) (n : Fin 4096) : Fin 512 := FirstMin.first (sqDist x cb b n)

/-- The squared difference between a pixel's channel and its code's. -/
def sqErr (b : Fin 32) (n : Fin 4096) (c : Fin 32) : EReal :=
  (cb (ix2 (best x cb b n) c) - pixel x b n c) * (cb (ix2 (best x cb b n) c) - pixel x b n c)

/-- The mean of the squared differences. -/
def loss : EReal := Ideal.div (∑ b, ∑ n, ∑ c, sqErr x cb b n c) (Ideal.ofBits .f32 0x4A800000#32)

/-- The place of the pixel at row `h` and column `w`. -/
abbrev place (h w : Fin 64) : Fin 4096 := ⟨h.val * 64 + w.val, by omega⟩

theorem pixel_place (b : Fin 32) (h w : Fin 64) (c : Fin 32) : pixel x b (place h w) c = x (ix4 b c h w) := by
  unfold pixel
  congr 2
  · ext; show (h.val * 64 + w.val) / 64 = h.val; omega
  · ext; show (h.val * 64 + w.val) % 64 = w.val; omega

/-- Every entry of an array is a real number. -/
def Finite {s : Shape} (v : FVec Ideal s .f32) : Prop := ∀ i, v i ≠ (⊤ : EReal) ∧ v i ≠ (⊥ : EReal)

/-- Moving a real number by the difference to another number leads there. -/
theorem add_sub_self {a : EReal} (ht : a ≠ ⊤) (hb : a ≠ ⊥) (q : EReal) : a + (q - a) = q := by
  lift a to ℝ using ⟨ht, hb⟩
  rw [add_comm]
  exact EReal.sub_add_cancel

/-- The bit pattern of positive infinity is the top. -/
theorem inf_eq : Ideal.ofBits .f32 0x7F800000#32 = (⊤ : EReal) := by simp [Ideal.ofBits, Ideal.ieee]

end Cert.Spec

end
-- ==== Proof.RefValue.lean ====
/- The reference's stages, read at an index. -/
module

public import proofs.«01_k».proof.Proof.RefTerm
public import proofs.«01_k».proof.Proof.Spec
public import Idealize.ShloMosaic.Lib.Pointwise

@[expose] public section

set_option maxRecDepth 16384

noncomputable section

namespace Cert.RefValue

open Idealize.ShloMosaic Cert.ReferenceIdeal Cert.ReferenceIdeal.Gen Cert.RefTerm

theorem flat_at (x : FVec Ideal S32x32x64x64 .f32) (b : Fin 32) (n : Fin 4096) (c : Fin 32) :
    flat x (ix3 b n c) = Spec.pixel x b n c := by
  unfold Spec.pixel
  pointwise [flat]

theorem sqDist_at (x : FVec Ideal S32x32x64x64 .f32) (cb : FVec Ideal S512x32 .f32) (b : Fin 32) (n : Fin 4096) (k : Fin 512) :
    sqDist (flat x) cb (ix3 b n k) = Spec.sqDist x cb b n k := by
  unfold Spec.sqDist
  simp only [← flat_at]
  generalize flat x = X
  pointwise [sqDist]

/-- The body of the two-operand minimum gives one of its two pairs, and one that is not after either. -/
theorem reducer_first (a b : Ideal .f32 × BitVec 32) :
    (reducer_argmin_f32_i32 a b = a ∨ reducer_argmin_f32_i32 a b = b)
      ∧ FirstMin.Before (reducer_argmin_f32_i32 a b) a ∧ FirstMin.Before (reducer_argmin_f32_i32 a b) b := by
  obtain ⟨a1, a2⟩ := a
  obtain ⟨b1, b2⟩ := b
  have key : reducer_argmin_f32_i32 (F := Ideal) (a1, a2) (b1, b2)
      = (if (a1 : EReal) < b1 then a1 else b1, if (a1 : EReal) < b1 ∨ ((a1 : EReal) = b1 ∧ a2.slt b2) then a2 else b2) := by
    unfold reducer_argmin_f32_i32
    by_cases h : (a1 : EReal) < b1 <;> by_cases h' : (a1 : EReal) = b1 <;> by_cases h'' : a2.slt b2 <;>
      simp [Ideal.cmpf_def, Ideal.cmp, IntOp.ori, IntOp.andi, IntOp.cmpi, Scalar.select, h, h', h'']
  rw [key]
  rcases lt_trichotomy (a1 : EReal) b1 with h | h | h
  · simp [h, FirstMin.Before]
  · obtain rfl : a1 = b1 := h
    by_cases h'' : a2.toInt < b2.toInt
    · simp [FirstMin.Before, BitVec.slt_iff_toInt_lt, h'', le_of_lt h'']
    · simp [FirstMin.Before, BitVec.slt_iff_toInt_lt, h'', not_lt.1 h'']
  · simp [FirstMin.Before, not_lt_of_gt h, ne_of_gt h, h]

/-- The pairs the minimum of row `n` of image `b` runs over: the distances with their places. -/
theorem mem_fiber (D : FVec Ideal S32x4096x512 .f32) (b : Fin 32) (n : Fin 4096) (p : Ideal .f32 × BitVec 32) :
    p ∈ Host.argReduceFiber D (iotaInDim S32x4096x512 32 2) reducesTo_S32x4096x512_S32x4096_d2 (ix2 b n)
      ↔ ∃ k : Fin 512, p = (D (ix3 b n k), BitVec.ofNat 32 k.val) := by
  unfold Host.argReduceFiber
  simp only [List.mem_map, List.mem_filter, List.mem_finRange, true_and, decide_eq_true_eq,
    Shape.ReducesTo.fiber_r3_a2]
  constructor
  · rintro ⟨i, ⟨k, hk⟩, rfl⟩
    exact ⟨k, by rw [← hk]; rfl⟩
  · rintro ⟨k, rfl⟩
    exact ⟨S32x4096x512.rowMajor (ix3 b n k), ⟨k, by rw [Equiv.symm_apply_apply]; rfl⟩, by
      rw [Equiv.symm_apply_apply]; rfl⟩

theorem nearest_at (D : FVec Ideal S32x4096x512 .f32) (b : Fin 32) (n : Fin 4096) :
    nearest D (ix2 b n) = BitVec.ofNat 32 (FirstMin.first fun k => D (ix3 b n k)).val := by
  have h := FirstMin.foldl_first (reducer_argmin_f32_i32 (F := Ideal)) reducer_first (fun k => D (ix3 b n k)) _ (mem_fiber D b n)
  have hi : constant (F := Ideal) S_ .f32 0x7F800000#32 (Shape.Idx.first h_S_) = (⊤ : EReal) := Spec.inf_eq
  have hz : constantI S_ 32 0#32 (Shape.Idx.first h_S_) = 0#32 := rfl
  unfold nearest
  rw [Ideal.argReduce_eq_reduce2]
  refine (second_at (Host.reduce2_eq_foldl_fiber _ _ _ _ _ _ _ _)).trans ?_
  rw [hi, hz]
  exact h

/-- The code numbers as the reference finds them. -/
theorem nearest_sqDist_at (x : FVec Ideal S32x32x64x64 .f32) (cb : FVec Ideal S512x32 .f32) (b : Fin 32) (n : Fin 4096) :
    nearest (sqDist (flat x) cb) (ix2 b n) = BitVec.ofNat 32 (Spec.best x cb b n).val := by
  rw [nearest_at]
  simp only [sqDist_at]
  rfl

/-- A code number is not negative. -/
theorem slt_zero (k : Fin 512) : IntOp.cmpi .slt (BitVec.ofNat 32 k.val) 0#32 = 0#1 := by
  revert k; decide +kernel

/-- A code number is in range. -/
theorem in_range (k : Fin 512) :
    IntOp.andi (IntOp.cmpi .sge (BitVec.ofNat 32 k.val) 0#32) (IntOp.cmpi .sle (BitVec.ofNat 32 k.val) 511#32) = 1#1 := by
  revert k; decide +kernel

theorem wrap_at (I : IVec S32x4096 32) (b : Fin 32) (n : Fin 4096) (z : Fin 1) (k : Fin 512)
    (hI : I (ix2 b n) = BitVec.ofNat 32 k.val) : wrap I (ix3 b n z) = BitVec.ofNat 32 k.val := by
  pointwise [wrap]
  rw [hI, slt_zero]
  rfl

theorem inRange_at (W : IVec S32x4096x1 32) (b : Fin 32) (n : Fin 4096) (k : Fin 512)
    (hW : ∀ z, W (ix3 b n z) = BitVec.ofNat 32 k.val) : inRange W (ix2 b n) = 1#1 := by
  pointwise [inRange]
  simp only [hW, in_range]
  decide

/-- The rows of the codebook read at an index: the row the start index names. -/
theorem gather_at (cb : FVec Ideal S512x32 .f32) (W : IVec S32x4096x1 32) (b : Fin 32) (n : Fin 4096) (c : Fin 32) (k : Fin 512)
    (hW : W (ix3 b n 0) = BitVec.ofNat 32 k.val) :
    Host.gather gather_S512x32_S32x4096x1_S32x4096x32_2_0_n_n_0_2_132 cb W (ix3 b n c) = cb (ix2 k c) := by
  unfold Host.gather
  congr 1
  funext a
  refine Fin.ext ?_
  generalize hd : gather_S512x32_S32x4096x1_S32x4096x32_2_0_n_n_0_2_132 = d
  show d.start (ix3 b n c) W a + d.batchCoord (ix3 b n c) a + d.offCoord (ix3 b n c) a = _
  subst hd
  rw [GatherDims.batchCoord_eq_zero _ _ _ List.not_mem_nil]
  have h01 : ∀ a : Fin 2, a = 0 ∨ a = 1 := by decide
  rcases h01 a with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S512x32_S32x4096x1_S32x4096x32_2_0_n_n_0_2_132.startIndexMap from List.mem_singleton.mpr rfl)]
    have hsi : gather_S512x32_S32x4096x1_S32x4096x32_2_0_n_n_0_2_132.siIdx (ix3 b n c)
        ⟨List.idxOf (0 : Fin 2) gather_S512x32_S32x4096x1_S32x4096x32_2_0_n_n_0_2_132.startIndexMap,
          List.idxOf_lt_length_iff.2 (List.mem_singleton.mpr rfl)⟩ = ix3 b n 0 := by
      funext e; refine Fin.ext ?_
      match e with
      | ⟨0, _⟩ => rfl
      | ⟨1, _⟩ => rfl
      | ⟨2, _⟩ => rfl
    rw [hsi, hW, FirstMin.toInt_word _ (by omega)]
    show min k.val (512 - 1) = k.val
    omega
  · unfold GatherDims.start
    rw [dif_neg (show (1 : Fin 2) ∉ gather_S512x32_S32x4096x1_S32x4096x32_2_0_n_n_0_2_132.startIndexMap by decide)]
    unfold GatherDims.offCoord
    rw [dif_pos (show (1 : Fin 2) ∈ gather_S512x32_S32x4096x1_S32x4096x32_2_0_n_n_0_2_132.sKept by decide)]
    simp only [Nat.zero_add]
    rfl

theorem take_at (cb : FVec Ideal S512x32 .f32) (I : IVec S32x4096 32) (b : Fin 32) (n : Fin 4096) (c : Fin 32) (k : Fin 512)
    (hI : I (ix2 b n) = BitVec.ofNat 32 k.val) : take cb I (ix3 b n c) = cb (ix2 k c) := by
  pointwise [take]
  rw [inRange_at _ b n k fun z => wrap_at I b n z k hI, gather_at cb _ b n c k (wrap_at I b n 0 k hI)]
  rfl

variable (x : FVec Ideal S32x32x64x64 .f32) (cb : FVec Ideal S512x32 .f32)

theorem quantized_at (X Q : FVec Ideal S32x4096x32 .f32) (b c : Fin 32) (h w : Fin 64) :
    quantized X Q (ix4 b c h w) = X (ix3 b (Spec.place h w) c) + (Q (ix3 b (Spec.place h w) c) - X (ix3 b (Spec.place h w) c)) := by
  pointwise [quantized]

/-- The reference's first result: every pixel replaced by its code. -/
theorem quantized_eq (hx : Spec.Finite x) (b c : Fin 32) (h w : Fin 64) :
    quantized (flat x) (take cb (nearest (sqDist (flat x) cb))) (ix4 b c h w) = cb (ix2 (Spec.best x cb b (Spec.place h w)) c) := by
  rw [quantized_at, take_at cb _ b (Spec.place h w) c _ (nearest_sqDist_at x cb b (Spec.place h w)), flat_at, Spec.pixel_place]
  exact Spec.add_sub_self (hx _).1 (hx _).2 _

/-- The image of code numbers holds each pixel's at its row and column. -/
theorem indices_at (I : IVec S32x4096 32) (b : Fin 32) (h w : Fin 64) :
    indices I (ix3 b h w) = I (ix2 b (Spec.place h w)) := by
  pointwise [indices]

/-- The reference's second result: the code numbers. -/
theorem indices_eq (b : Fin 32) (h w : Fin 64) :
    indices (nearest (sqDist (flat x) cb)) (ix3 b h w) = BitVec.ofNat 32 (Spec.best x cb b (Spec.place h w)).val := by
  rw [indices_at, nearest_sqDist_at]

/-- The reference's third result: the mean squared distance. -/
theorem loss_eq (z : S_.Idx) : loss (flat x) (take cb (nearest (sqDist (flat x) cb))) z = Spec.loss x cb := by
  have ht := fun b n c => take_at cb _ b n c _ (nearest_sqDist_at x cb b n)
  have hf := flat_at x
  revert ht hf
  generalize take cb (nearest (sqDist (flat x) cb)) = Q
  generalize flat x = X
  intro ht hf
  obtain rfl : z = ix0 := Subsingleton.elim _ _
  unfold Spec.loss Spec.sqErr
  simp only [← ht, ← hf]
  pointwise [loss]

end Cert.RefValue

end
-- ==== Proof.Finite.lean ====
/- What the precondition says of the two arguments: every entry is a real number. -/
module

public import proofs.«01_k».proof.Proof.Gen.Pre_finite
public import proofs.«01_k».proof.Proof.Spec
public import Idealize.ShloMosaic.Lib.ReduceAll

@[expose] public section

noncomputable section

namespace Cert.Finite

open Idealize.ShloMosaic Cert.Pre_finite Cert.Pre_finite.Gen

/-- A value whose magnitude is below infinity is a real number. -/
theorem real_of_bit (a : Ideal .f32) (h : FloatOps.cmpf .olt (max (a : EReal) (-a) : Ideal .f32) (Ideal.ofBits .f32 0x7F800000#32) = 1#1) :
    a ≠ (⊤ : EReal) ∧ a ≠ (⊥ : EReal) := by
  rw [Spec.inf_eq] at h
  constructor
  · rintro rfl
    simp [Ideal.cmpf_def, Ideal.cmp] at h
  · rintro rfl
    simp [Ideal.cmpf_def, Ideal.cmp] at h

instance : Subsingleton S_.Idx := ⟨fun i j => funext fun a => a.elim0⟩

theorem of_pre {x : FVec Ideal S32x32x64x64 .f32} {cb : FVec Ideal S512x32 .f32} (h : fn x cb = fun _ => 1#1) :
    Spec.Finite x ∧ Spec.Finite cb := by
  have h0 := congrFun h ix0
  unfold fn at h0
  obtain ⟨hx, hc⟩ := IntOp.andi_eq_one.1 h0
  refine ⟨fun i => ?_, fun i => ?_⟩
  · have := Host.reduce_andi_all _ _ _ _ ix0 hx i
    exact real_of_bit _ this
  · have := Host.reduce_andi_all _ _ _ _ ix0 hc i
    exact real_of_bit _ this

end Cert.Finite

end
-- ==== Proof.Payload.lean ====
/- What the kernel's body computes from one block of pixels, read at an index. -/
module

public import proofs.«01_k».proof.Proof.Gen.KernelIdeal.Skeleton
public import proofs.«01_k».proof.Proof.Gen.KernelIdeal
public import proofs.«01_k».proof.Proof.Spec
public import Idealize.ShloMosaic.PureOps.Ideal
public import Idealize.ShloMosaic.Lib.Pointwise

@[expose] public section

set_option maxRecDepth 16384

noncomputable section

namespace Cert.Payload

open Idealize.ShloMosaic Cert.KernelIdeal Cert.KernelIdeal.Gen

variable (x : FVec Ideal S1x32x2048 .f32) (cb : FVec Ideal S512x32 .f32) (ct : FVec Ideal S32x512 .f32)

/-- The squared distance of the block's pixel `l` to code `k`, as the body spells it. -/
def sqDist (l : Fin 2048) (k : Fin 512) : EReal :=
  (∑ c, x (ix3 0 c l) * x (ix3 0 c l) + ∑ c, cb (ix2 k c) * cb (ix2 k c))
    - Ideal.ofBits .f32 0x40000000#32 * ∑ c, cb (ix2 k c) * x (ix3 0 c l)

/-- The first nearest code of the block's pixel `l`. -/
def best (l : Fin 2048) : Fin 512 := FirstMin.first (sqDist x cb l)

/-- The body's code numbers. -/
theorem pay7 (l : Fin 2048) : k0_pay7 (F := Ideal) x cb (ix1 l) = BitVec.ofNat 32 (best x cb l).val := by
  have h := FirstMin.fold_minsi (sqDist x cb l)
  rw [← FirstMin.fold_min (sqDist x cb l), ← Spec.inf_eq] at h
  refine Eq.trans ?_ h
  unfold sqDist
  pointwise [k0_pay7, k0_pay5]

/-- The block of code numbers the body stores. -/
theorem pay8 (l : Fin 2048) : k0_pay8 (F := Ideal) x cb (ix3 0 0 l) = BitVec.ofNat 32 (best x cb l).val := by
  rw [← pay7]
  pointwise [k0_pay8]

/-- Two code numbers are one word exactly when they are one number. -/
theorem ofNat_inj (k k' : Fin 512) : BitVec.ofNat 32 k.val = BitVec.ofNat 32 k'.val ↔ k = k' := by
  constructor
  · intro h
    have := congrArg BitVec.toNat h
    simp only [BitVec.toNat_ofNat] at this
    ext; omega
  · rintro rfl; rfl

/-- The body's one-hot columns. -/
theorem pay9 (k : Fin 512) (l : Fin 2048) :
    k0_pay9 (F := Ideal) x cb (ix2 k l) = if k = best x cb l then (1 : EReal) else 0 := by
  have h7 := pay7 x cb l
  revert h7
  generalize best x cb l = f
  intro h7
  pointwise [k0_pay9]
  rw [h7]
  by_cases h : k = f
  · subst h
    simp only [if_true]
    show (((BitVec.setWidth 32 (IntOp.cmpi .eq (BitVec.ofNat 32 k.val) (BitVec.ofNat 32 k.val))).toInt : ℝ) : EReal) = 1
    simp [IntOp.cmpi]
  · have h' : ¬ BitVec.ofNat 32 k.val = BitVec.ofNat 32 f.val := fun e => h ((ofNat_inj k f).1 e)
    simp only [h, if_false]
    show (((BitVec.setWidth 32 (IntOp.cmpi .eq (BitVec.ofNat 32 k.val) (BitVec.ofNat 32 f.val))).toInt : ℝ) : EReal) = 0
    have e : IntOp.cmpi .eq (BitVec.ofNat 32 k.val) (BitVec.ofNat 32 f.val) = 0#1 := by
      simp only [IntOp.cmpi, beq_eq_false_iff_ne.2 h']; rfl
    rw [e]
    simp

/-- A sum against a one-hot column is the entry it marks. -/
theorem sum_onehot (v : Fin 512 → EReal) (f : Fin 512) : ∑ k, v k * (if k = f then (1 : EReal) else 0) = v f := by
  rw [Finset.sum_eq_single f]
  · simp
  · intro k _ h; simp [h]
  · simp

variable {ct} in
/-- The two products against the one-hot columns together pick the codes, entry by entry. -/
theorem pay1 (hc : Spec.Finite ct) (oh : FVec Ideal S512x2048 .bf16) (c : Fin 32) (l : Fin 2048) (f : Fin 512)
    (ho : ∀ k, oh (ix2 k l) = if k = f then (1 : EReal) else 0) :
    k0_pay1 (F := Ideal) (k0_pay6 ct) oh (k0_pay10 ct) (k0_pay11 ct) (ix2 c l) = ct (ix2 c f) := by
  have h : (∑ k, ct (ix2 c k) * (if k = f then (1 : EReal) else 0)) + ∑ k, (ct (ix2 c k) - ct (ix2 c k)) * (if k = f then (1 : EReal) else 0)
      = ct (ix2 c f) := by
    rw [sum_onehot (fun k => ct (ix2 c k)), sum_onehot (fun k => ct (ix2 c k) - ct (ix2 c k))]
    exact Spec.add_sub_self (hc _).1 (hc _).2 _
  refine Eq.trans ?_ h
  simp only [← ho]
  pointwise [k0_pay1, k0_pay6, k0_pay10, k0_pay11]

/-- The block of codes the body stores. -/
theorem pay2 (a : FVec Ideal S32x512 .f32) (oh : FVec Ideal S512x2048 .bf16) (d : FVec Ideal S32x512 .bf16) (e : FVec Ideal S32x512 .f32)
    (c : Fin 32) (l : Fin 2048) : k0_pay2 (F := Ideal) a oh d e (ix3 0 c l) = k0_pay1 (F := Ideal) a oh d e (ix2 c l) := by
  pointwise [k0_pay2]

/-- The running sum the body stores: what was there, and the block's squared differences. -/
theorem pay4 (a : FVec Ideal S32x512 .f32) (oh : FVec Ideal S512x2048 .bf16) (d : FVec Ideal S32x512 .bf16) (e : FVec Ideal S32x512 .f32) (v : FVec Ideal S1x1 .f32) :
    k0_pay4 (F := Ideal) (k0_pay5 x) a oh d e v (ix2 0 0)
      = v (ix2 0 0) + ∑ c : Fin 32, ∑ l : Fin 2048, (k0_pay1 (F := Ideal) a oh d e (ix2 c l) - x (ix3 0 c l))
          * (k0_pay1 (F := Ideal) a oh d e (ix2 c l) - x (ix3 0 c l)) := by
  pointwise [k0_pay4, k0_pay5]

/-- The running sum starts from zero. -/
theorem pay3 : k0_pay3 (F := Ideal) (ix2 0 0) = (0 : EReal) := by
  pointwise [k0_pay3]

end Cert.Payload

end
-- ==== Proof.Blocks.lean ====
/- The input blocks of every grid point, as entries of the two arguments, and the payloads over them. -/
module

public import proofs.«01_k».proof.Proof.Payload
public import proofs.«01_k».proof.Proof.Gen.KernelIdeal.Frame
public import Idealize.ShloMosaic.Lib.Pipeline.ValueKit

@[expose] public section

set_option maxRecDepth 16384

noncomputable section

namespace Cert.Blocks

open Idealize.ShloMosaic Cert.KernelIdeal Cert.KernelIdeal.Gen

/-- The windows' block indices: point `t` works on image `t / 2` and on half `t % 2` of its pixels. -/
theorem idx : ∀ t : Fin cfg0.N, win0_0.index t = ![t.val / 2, 0, t.val % 2] ∧ win0_1.index t = ![0, 0] ∧ win0_2.index t = ![0, 0]
    ∧ win0_3.index t = ![t.val / 2, 0, t.val % 2] ∧ win0_4.index t = ![t.val / 2, 0, t.val % 2] ∧ win0_5.index t = ![0, 0] :=
  (by decide +kernel : ∀ t : Fin grid0.N, _)

variable (m : (ℓ : Loc nD τ sig) → Buf (Elt Ideal) ℓ) (c : Dev nD)

/-- The images and the codebook of device `c`. -/
abbrev x : FVec Ideal S32x32x64x64 .f32 := m (c.tc.loc main_arg0)
abbrev cb : FVec Ideal S512x32 .f32 := m (c.tc.loc main_arg1)

/-- The image point `t` works on. -/
abbrev img (t : Fin cfg0.N) : Fin 32 := ⟨t.val / 2, by have := t.isLt; have : cfg0.N = 64 := N_0; omega⟩

/-- The pixel at lane `l` of point `t`'s block. -/
abbrev lane (t : Fin cfg0.N) (l : Fin 2048) : Fin 4096 := ⟨t.val % 2 * 2048 + l.val, by omega⟩

theorem entry0 : (V m c main_call0_v0 : FVec Ideal S32x32x4096 .f32) = shapeCast S32x32x4096 (x m c) shapeCasts_S32x32x64x64_S32x32x4096 := by
  show StableHlo.after hostOps0 (fun b => m (c, b)) (Proc.tc.devRef main_call0_v0) = _
  after_results
  rfl

theorem entry1 : (V m c main_call0_v1 : FVec Ideal S32x512 .f32) = transpose S32x512 [1, 0] (cb m c) transposes_S512x32_S32x512_1_0 := by
  show StableHlo.after hostOps0 (fun b => m (c, b)) (Proc.tc.devRef main_call0_v1) = _
  after_results
  rfl

theorem blk0 (t : Fin cfg0.N) (ch : Fin 32) (l : Fin 2048) :
    (iblk m c 0 t : FVec Ideal S1x32x2048 .f32) (ix3 0 ch l) = Spec.pixel (x m c) (img t) (lane t l) ch := by
  unfold Spec.pixel
  blk_simp [iblk]
  rw [entry0]
  pointwise
  blk_ext [idx t]

theorem blk1 (t : Fin cfg0.N) (k : Fin 512) (ch : Fin 32) :
    (iblk m c 1 t : FVec Ideal S512x32 .f32) (ix2 k ch) = cb m c (ix2 k ch) := by
  blk_ext [iblk, V, idx t]

theorem blk2 (t : Fin cfg0.N) (k : Fin 512) (ch : Fin 32) :
    (iblk m c 2 t : FVec Ideal S32x512 .f32) (ix2 ch k) = cb m c (ix2 k ch) := by
  blk_simp [iblk]
  rw [entry1]
  pointwise
  blk_ext [idx t]

/-- The distances point `t`'s body computes are those of its pixels. -/
theorem sqDist_eq (t : Fin cfg0.N) (l : Fin 2048) :
    Payload.sqDist (iblk m c 0 t) (iblk m c 1 t) l = Spec.sqDist (x m c) (cb m c) (img t) (lane t l) := by
  funext k
  unfold Payload.sqDist Spec.sqDist
  simp only [blk0, blk1]
  congr 2
  exact Finset.sum_congr rfl fun ch _ => mul_comm _ _

/-- So are the nearest codes. -/
theorem best_eq (t : Fin cfg0.N) (l : Fin 2048) :
    Payload.best (iblk m c 0 t) (iblk m c 1 t) l = Spec.best (x m c) (cb m c) (img t) (lane t l) := by
  unfold Payload.best Spec.best
  rw [sqDist_eq]

/-- The code numbers point `t` stores. -/
theorem pay8 (t : Fin cfg0.N) (l : Fin 2048) :
    k0_pay8 (F := Ideal) (iblk m c 0 t) (iblk m c 1 t) (ix3 0 0 l)
      = BitVec.ofNat 32 (Spec.best (x m c) (cb m c) (img t) (lane t l)).val := by
  rw [← best_eq]
  exact Payload.pay8 _ _ l

variable {m c} in
/-- The codes point `t` picks. -/
theorem pay1 (hc : Spec.Finite (cb m c)) (t : Fin cfg0.N) (ch : Fin 32) (l : Fin 2048) :
    k0_pay1 (F := Ideal) (k0_pay6 (iblk m c 2 t)) (k0_pay9 (iblk m c 0 t) (iblk m c 1 t)) (k0_pay10 (iblk m c 2 t))
        (k0_pay11 (iblk m c 2 t)) (ix2 ch l)
      = cb m c (ix2 (Spec.best (x m c) (cb m c) (img t) (lane t l)) ch) := by
  have hf : Spec.Finite (s := S32x512) (iblk m c 2 t) := fun i => by
    rw [eq_ix2 i]
    exact (blk2 m c t (i 1) (i 0)).symm ▸ hc _
  rw [← best_eq, ← blk2 m c t]
  exact Payload.pay1 hf _ ch l _ fun k => Payload.pay9 _ _ k l

variable {m c} in
/-- The codes point `t` stores. -/
theorem pay2 (hc : Spec.Finite (cb m c)) (t : Fin cfg0.N) (ch : Fin 32) (l : Fin 2048) :
    k0_pay2 (F := Ideal) (k0_pay6 (iblk m c 2 t)) (k0_pay9 (iblk m c 0 t) (iblk m c 1 t)) (k0_pay10 (iblk m c 2 t))
        (k0_pay11 (iblk m c 2 t)) (ix3 0 ch l)
      = cb m c (ix2 (Spec.best (x m c) (cb m c) (img t) (lane t l)) ch) := by
  rw [Payload.pay2]
  exact pay1 hc t ch l

variable {m c} in
/-- The sum point `t` stores: what was there, and its pixels' squared differences. -/
theorem pay4 (hc : Spec.Finite (cb m c)) (t : Fin cfg0.N) (v : FVec Ideal S1x1 .f32) :
    k0_pay4 (F := Ideal) (k0_pay5 (iblk m c 0 t)) (k0_pay6 (iblk m c 2 t)) (k0_pay9 (iblk m c 0 t) (iblk m c 1 t))
        (k0_pay10 (iblk m c 2 t)) (k0_pay11 (iblk m c 2 t)) v (ix2 0 0)
      = v (ix2 0 0) + ∑ ch : Fin 32, ∑ l : Fin 2048, Spec.sqErr (x m c) (cb m c) (img t) (lane t l) ch := by
  rw [Payload.pay4]
  unfold Spec.sqErr
  simp only [pay1 hc, blk0]

end Cert.Blocks

end
-- ==== Proof.Arrays.lean ====
/- What the kernel's three output arrays hold after its run. -/
module

public import proofs.«01_k».proof.Proof.Blocks

@[expose] public section

set_option maxRecDepth 16384

noncomputable section

namespace Cert.Arrays

open Idealize.ShloMosaic Cert.KernelIdeal Cert.KernelIdeal.Gen Cert.Blocks

variable (m : (ℓ : Loc nD τ sig) → Buf (Elt Ideal) ℓ) (c : Dev nD)

/-- The codes of all pixels, channel by channel. -/
def codes : FVec Ideal S32x32x4096 .f32 := fun i =>
  cb m c (ix2 (Spec.best (x m c) (cb m c) ⟨(i 0).val, (i 0).isLt⟩ ⟨(i 2).val, (i 2).isLt⟩) ⟨(i 1).val, (i 1).isLt⟩)

/-- The code numbers of all pixels. -/
def numbers : IVec S32x1x4096 32 := fun i =>
  BitVec.ofNat 32 (Spec.best (x m c) (cb m c) ⟨(i 0).val, (i 0).isLt⟩ ⟨(i 2).val, (i 2).isLt⟩).val

/-- The sum of all squared differences, in an array of one entry. -/
def total : FVec Ideal S1x1 .f32 := fun _ => ∑ b, ∑ n, ∑ ch, Spec.sqErr (x m c) (cb m c) b n ch

variable {m c}

theorem arr3 (hc : Spec.Finite (cb m c)) : (dats m 0 c).arrAt 3 cfg0.N = codes m c := by
  refine (dats m 0 c).arrAt_eq_of_covers 3 _ (by decide +kernel) fun t hf y => ?_
  blk_simp
  rw [after0_3]
  have key : k0_pay2 (F := Ideal) (k0_pay6 (iblk m c 2 t)) (k0_pay9 (iblk m c 0 t) (iblk m c 1 t)) (k0_pay10 (iblk m c 2 t))
      (k0_pay11 (iblk m c 2 t)) y = codes m c (((cfg0.win 3).blk t).view.emb y) := by
    obtain ⟨z, ch, l, rfl⟩ : ∃ (z : Fin 1) (ch : Fin 32) (l : Fin 2048), y = ix3 z ch l := ⟨_, _, _, eq_ix3 y⟩
    obtain rfl : z = 0 := Subsingleton.elim _ _
    rw [pay2 hc t ch l]
    have e : ((cfg0.win 3).blk t).view.emb (ix3 0 ch l) = ix3 (img t) ch (lane t l) := by
      blk_ext [idx t]
    rw [e]
    rfl
  by_cases h0 : t.val % 64 = 0
  · rw [outsAt0_A m c t h0]
    frame_out
    exact key
  · rw [outsAt0_B m c t h0]
    frame_out
    exact key

theorem arr4 : (dats m 0 c).arrAt 4 cfg0.N = numbers m c := by
  refine (dats m 0 c).arrAt_eq_of_covers 4 _ (by decide +kernel) fun t hf y => ?_
  blk_simp
  rw [after0_4]
  have key : k0_pay8 (F := Ideal) (iblk m c 0 t) (iblk m c 1 t) y = numbers m c (((cfg0.win 4).blk t).view.emb y) := by
    obtain ⟨z, z', l, rfl⟩ : ∃ (z : Fin 1) (z' : Fin 1) (l : Fin 2048), y = ix3 z z' l := ⟨_, _, _, eq_ix3 y⟩
    obtain rfl : z = 0 := Subsingleton.elim _ _
    obtain rfl : z' = 0 := Subsingleton.elim _ _
    rw [pay8 m c t l]
    have e : ((cfg0.win 4).blk t).view.emb (ix3 0 0 l) = ix3 (img t) (0 : Fin 1) (lane t l) := by
      blk_ext [idx t]
    rw [e]
    rfl
  by_cases h0 : t.val % 64 = 0
  · rw [outsAt0_A m c t h0]
    frame_out
    exact key
  · rw [outsAt0_B m c t h0]
    frame_out
    exact key

/-- The squared differences of point `t`'s pixels. -/
def part (m : (ℓ : Loc nD τ sig) → Buf (Elt Ideal) ℓ) (c : Dev nD) (t : Fin cfg0.N) : EReal :=
  ∑ ch : Fin 32, ∑ l : Fin 2048, Spec.sqErr (x m c) (cb m c) (img t) (lane t l) ch

theorem first_part (hc : Spec.Finite (cb m c)) (t : Fin cfg0.N) (h0 : t.val % 64 = 0) :
    (outsAt0 m c t.val t.isLt).2.2 (ix2 0 0) = 0 + part m c t := by
  rw [outsAt0_A m c t h0]
  frame_out
  refine (pay4 hc t _).trans ?_
  rw [Payload.pay3]
  rfl

theorem next_part (hc : Spec.Finite (cb m c)) (t : Fin cfg0.N) (h0 : ¬ t.val % 64 = 0) :
    (outsAt0 m c t.val t.isLt).2.2 (ix2 0 0)
      = (outsAt0 m c (t.val - 1) (Nat.lt_of_le_of_lt (Nat.sub_le _ _) t.isLt)).2.2 (ix2 0 0) + part m c t := by
  rw [outsAt0_B m c t h0]
  frame_out
  exact pay4 hc t _

/-- The points' parts make up the sum over all pixels. -/
theorem sum_parts : ∑ t : Fin cfg0.N, part m c t = ∑ b, ∑ n, ∑ ch, Spec.sqErr (x m c) (cb m c) b n ch := by
  unfold part
  rw [Finset.sum_congr rfl fun (t : Fin cfg0.N) _ => Finset.sum_comm]
  exact Fin.sum_points_lanes_congr 2 (fun t l ha hl => rfl) (by decide) (by decide)

theorem arr5 (hc : Spec.Finite (cb m c)) : (dats m 0 c).arrAt 5 cfg0.N = total m c := by
  refine (dats m 0 c).arrAt_eq_of_covers 5 _ (by decide +kernel) fun t hf y => ?_
  have ht := (flush0_5 t).1 hf
  blk_simp
  rw [after0_5]
  obtain ⟨z, z', rfl⟩ : ∃ (z : Fin 1) (z' : Fin 1), y = ix2 z z' := ⟨_, _, eq_ix2 y⟩
  obtain rfl : z = 0 := Subsingleton.elim _ _
  obtain rfl : z' = 0 := Subsingleton.elim _ _
  refine Eq.trans ?_ (sum_parts (m := m) (c := c))
  have hN : cfg0.N = 64 := N_0
  have hlt := t.isLt
  have h := Pipeline.eq_sum_fin_of_reset_step_last (fun n hn => (outsAt0 m c n hn).2.2 (ix2 0 0)) 64 (0 : EReal) (part m c)
    (first_part hc) (next_part hc) (le_of_eq hN) t (by omega)
  exact h.trans (zero_add _)

end Cert.Arrays

end
-- ==== Proof.KernelRun.lean ====
/- What the kernel's program leaves in its three results. -/
module

public import proofs.«01_k».proof.Proof.Arrays

@[expose] public section

set_option maxRecDepth 16384

noncomputable section

namespace Cert.KernelRun

open Idealize.ShloMosaic Idealize.SL.Sem Cert.KernelIdeal Cert.KernelIdeal.Gen Cert.Blocks

variable (W : Valuation τ sig (Elt Ideal))

/-- The code array, in the layout of the images. -/
theorem after0 (G : FVec Ideal S32x32x4096 .f32) (h : W (Proc.devRef .tc main_call0_v2_0) = G) :
    StableHlo.after hostOps1 W (Proc.devRef .tc main_v0_0) = shapeCast S32x32x64x64 G shapeCasts_S32x32x4096_S32x32x64x64 := by
  subst h
  after_results
  rfl

/-- The code numbers, as images. -/
theorem after1 (G : IVec S32x1x4096 32) (h : W (Proc.devRef .tc main_call0_v2_1) = G) :
    StableHlo.after hostOps1 W (Proc.devRef .tc main_v0_1) = shapeCast S32x64x64 G shapeCasts_S32x1x4096_S32x64x64 := by
  subst h
  after_results
  rfl

/-- The mean of the squared differences from their sum. -/
def mean (G : FVec Ideal S1x1 .f32) : FVec Ideal S_ .f32 :=
  shapeCast S_ (Host.divf (shapeCast S_ G shapeCasts_S1x1_S_) (constant S_ .f32 0x4A800000#32)) shapeCasts_S_S_

theorem after2 (G : FVec Ideal S1x1 .f32) (h : W (Proc.devRef .tc main_call0_v2_2) = G) :
    StableHlo.after hostOps1 W (Proc.devRef .tc main_v0_2) = mean G := by
  subst h
  after_results
  rfl

variable (m : (ℓ : Loc nD τ sig) → Buf (Elt Ideal) ℓ) (c : Dev nD)

theorem arr_inj : Function.Injective (Pipeline.arrRef spec0) := by decide

theorem tail0 (hc : Spec.Finite (cb m c)) : Pipeline.afterTail₀ cfgs (dats m) 0 (V0 m) [hostOps1] c main_v0_0
    = shapeCast S32x32x64x64 (Arrays.codes m c) shapeCasts_S32x32x4096_S32x32x64x64 :=
  after0 _ _ ((Pipeline.withArrays_arr spec0 arr_inj c (V0 m c) (fun w => (dats m 0 c).arrAt w cfg0.N) 3).trans (Arrays.arr3 hc))

theorem tail1 : Pipeline.afterTail₀ cfgs (dats m) 0 (V0 m) [hostOps1] c main_v0_1
    = shapeCast S32x64x64 (Arrays.numbers m c) shapeCasts_S32x1x4096_S32x64x64 :=
  after1 _ _ ((Pipeline.withArrays_arr spec0 arr_inj c (V0 m c) (fun w => (dats m 0 c).arrAt w cfg0.N) 4).trans Arrays.arr4)

theorem tail2 (hc : Spec.Finite (cb m c)) : Pipeline.afterTail₀ cfgs (dats m) 0 (V0 m) [hostOps1] c main_v0_2
    = mean (Arrays.total m c) :=
  after2 _ _ ((Pipeline.withArrays_arr spec0 arr_inj c (V0 m c) (fun w => (dats m 0 c).arrAt w cfg0.N) 5).trans (Arrays.arr5 hc))

/-- The kernel's first result: every pixel replaced by its code. -/
theorem codes_eq (b ch : Fin 32) (h w : Fin 64) :
    shapeCast S32x32x64x64 (Arrays.codes m c) shapeCasts_S32x32x4096_S32x32x64x64 (ix4 b ch h w)
      = cb m c (ix2 (Spec.best (x m c) (cb m c) b (Spec.place h w)) ch) := by
  have e : ∀ n, Arrays.codes m c (ix3 b ch n) = cb m c (ix2 (Spec.best (x m c) (cb m c) b n) ch) := fun _ => rfl
  rw [← e]
  generalize Arrays.codes m c = G
  pointwise

/-- The kernel's second result: the code numbers. -/
theorem numbers_eq (b : Fin 32) (h w : Fin 64) :
    shapeCast S32x64x64 (Arrays.numbers m c) shapeCasts_S32x1x4096_S32x64x64 (ix3 b h w)
      = BitVec.ofNat 32 (Spec.best (x m c) (cb m c) b (Spec.place h w)).val := by
  have e : ∀ n, Arrays.numbers m c (ix3 b 0 n) = BitVec.ofNat 32 (Spec.best (x m c) (cb m c) b n).val := fun _ => rfl
  rw [← e]
  generalize Arrays.numbers m c = G
  pointwise

/-- The kernel's third result: the mean squared distance. -/
theorem mean_eq (z : S_.Idx) : mean (Arrays.total m c) z = Spec.loss (x m c) (cb m c) := by
  obtain rfl : z = ix0 := Subsingleton.elim _ _
  unfold Spec.loss
  have e : Arrays.total m c (ix2 0 0) = ∑ b, ∑ n, ∑ ch, Spec.sqErr (x m c) (cb m c) b n ch := rfl
  rw [← e]
  generalize Arrays.total m c = G
  pointwise [mean]

/-- The kernel's program ends with the codes, the code numbers and the mean squared distance, its arguments unchanged. -/
theorem run (g : Dev nD → PrngReg) (hc : ∀ c, Spec.Finite (cb m c)) :
    θ_run (defs (F := Ideal)) (onTc (τ := τ) (main (F := Ideal))) ⟨m, fun _ => 0, g⟩ (fun r => ∀ c : Dev nD,
      (r.2.mem ((c.tc : Thread nD τ).loc main_v0_0) = shapeCast S32x32x64x64 (Arrays.codes m c) shapeCasts_S32x32x4096_S32x32x64x64
      ∧ r.2.mem ((c.tc : Thread nD τ).loc main_v0_1) = shapeCast S32x64x64 (Arrays.numbers m c) shapeCasts_S32x1x4096_S32x64x64
      ∧ r.2.mem ((c.tc : Thread nD τ).loc main_v0_2) = mean (Arrays.total m c)
      ∧ r.2.mem ((c.tc : Thread nD τ).loc main_arg0) = m ((c.tc : Thread nD τ).loc main_arg0)
      ∧ r.2.mem ((c.tc : Thread nD τ).loc main_arg1) = m ((c.tc : Thread nD τ).loc main_arg1))) :=
  (θ_run defs _ _).mono
    (fun _ h c =>
      ⟨((h.1 c).2 main_v0_0 (Pipeline.mem_restRefs_of main_v0_0 (by decide) (by decide))).trans (tail0 m c (hc c)),
        ((h.1 c).2 main_v0_1 (Pipeline.mem_restRefs_of main_v0_1 (by decide) (by decide))).trans (tail1 m c),
        ((h.1 c).2 main_v0_2 (Pipeline.mem_restRefs_of main_v0_2 (by decide) (by decide))).trans (tail2 m c (hc c)),
        (h.2 c).1, (h.2 c).2⟩)
    (θ_run_and (run_main m g) (unchanged m g))

end Cert.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.RefValue
public import proofs.«01_k».proof.Proof.Finite
public import proofs.«01_k».proof.Proof.KernelRun
public import Idealize.ShloMosaic.Adequacy
public import Idealize.ShloMosaic.Init

@[expose] public section

noncomputable section

namespace Cert.Proof

open Idealize.ShloMosaic Idealize.SL.Sem Cert.Kernel

section Results

variable (x : FVec Ideal Spec.Images .f32) (cb : FVec Ideal Spec.Codes .f32)

/-- Both programs replace the pixels alike. -/
theorem quantized_same (hx : Spec.Finite x) (G : FVec Ideal ReferenceIdeal.S32x32x64x64 .f32)
    (hG : ∀ b ch h w, G (ix4 b ch h w) = cb (ix2 (Spec.best x cb b (Spec.place h w)) ch)) :
    RefTerm.quantized (RefTerm.flat x) (RefTerm.take cb (RefTerm.nearest (RefTerm.sqDist (RefTerm.flat x) cb))) = G := by
  funext i
  rw [eq_ix4 i]
  exact (RefValue.quantized_eq x cb hx _ _ _ _).trans (hG _ _ _ _).symm

/-- Both programs choose the same codes. -/
theorem indices_same (G : IVec ReferenceIdeal.S32x64x64 32)
    (hG : ∀ b h w, G (ix3 b h w) = BitVec.ofNat 32 (Spec.best x cb b (Spec.place h w)).val) :
    RefTerm.indices (RefTerm.nearest (RefTerm.sqDist (RefTerm.flat x) cb)) = G := by
  funext i
  rw [eq_ix3 i]
  exact (RefValue.indices_eq x cb _ _ _).trans (hG _ _ _).symm

/-- Both programs find the same loss. -/
theorem loss_same (G : FVec Ideal ReferenceIdeal.S_ .f32) (hG : ∀ z, G z = Spec.loss x cb) :
    RefTerm.loss (RefTerm.flat x) (RefTerm.take cb (RefTerm.nearest (RefTerm.sqDist (RefTerm.flat x) cb))) = G :=
  funext fun z => (RefValue.loss_eq x cb z).trans (hG z).symm

end Results

/-- The two programs over the extended reals, from the same finite arguments, end with the same three results. -/
theorem algebraic : letI := Cert.KernelIdeal.Gen.facts; letI := Cert.ReferenceIdeal.Gen.facts; letI := Cert.Pre_finite.Gen.facts
    Cert.algebraic_KernelIdeal_ReferenceIdeal_pre_finite := by
  intro m g m' g' hpre heq
  have hf := fun c => Cert.Finite.of_pre (hpre c)
  refine ⟨_, _, _, KernelRun.run m g (fun c => (hf c).2), (θ_run _ _ _).mono (fun r h c => ?_) (RefRun.run m' g')⟩
  obtain ⟨h0, h1, h2, a0, a1⟩ := h c
  obtain ⟨e0, e1⟩ := heq c
  refine ⟨h0.trans ?_, h1.trans ?_, h2.trans ?_, a0, a1⟩
  · unfold RefRun.I RefRun.X RefRun.cb
    rw [e0, e1]
    exact quantized_same _ _ (hf c).1 _ (KernelRun.codes_eq m c)
  · unfold RefRun.I RefRun.X RefRun.cb
    rw [e0, e1]
    exact indices_same _ _ _ (KernelRun.numbers_eq m c)
  · unfold RefRun.I RefRun.X RefRun.cb
    rw [e0, e1]
    exact loss_same _ _ _ (KernelRun.mean_eq m c)

theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, fun m g _ => Cert.RefRun.frame m g,
    fun m g _ => Cert.RefRun.frame m g, trivial, algebraic⟩

end Cert.Proof

end
